-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x5120 : Shape := ⟨3, ![6, 2048, 5120]⟩
abbrev S6x2048x40 : Shape := ⟨3, ![6, 2048, 40]⟩
abbrev S6x2048 : Shape := ⟨2, ![6, 2048]⟩
abbrev S5120 : Shape := ⟨1, ![5120]⟩
abbrev S5120x7168 : Shape := ⟨2, ![5120, 7168]⟩
abbrev S7168 : Shape := ⟨1, ![7168]⟩
abbrev S6x2048x7168 : Shape := ⟨3, ![6, 2048, 7168]⟩
abbrev S12288x5120 : Shape := ⟨2, ![12288, 5120]⟩
abbrev S12288x40 : Shape := ⟨2, ![12288, 40]⟩
abbrev S12288x1 : Shape := ⟨2, ![12288, 1]⟩
abbrev S1x5120 : Shape := ⟨2, ![1, 5120]⟩
abbrev S12288x7168 : Shape := ⟨2, ![12288, 7168]⟩
abbrev S1x7168 : Shape := ⟨2, ![1, 7168]⟩
abbrev S8x5120 : Shape := ⟨2, ![8, 5120]⟩
abbrev S256x5120 : Shape := ⟨2, ![256, 5120]⟩
abbrev S256x40 : Shape := ⟨2, ![256, 40]⟩
abbrev S256x1 : Shape := ⟨2, ![256, 1]⟩
abbrev S256x7168 : Shape := ⟨2, ![256, 7168]⟩
abbrev S256x128 : Shape := ⟨2, ![256, 128]⟩
abbrev S512x7168 : Shape := ⟨2, ![512, 7168]⟩
abbrev S256x512 : Shape := ⟨2, ![256, 512]⟩
abbrev S1x128 : Shape := ⟨2, ![1, 128]⟩
abbrev S8x128 : Shape := ⟨2, ![8, 128]⟩
abbrev S32x8x128 : Shape := ⟨3, ![32, 8, 128]⟩
abbrev S256 : Shape := ⟨1, ![256]⟩
abbrev S12288x10x4 : Shape := ⟨3, ![12288, 10, 4]⟩
abbrev S10x12288x4 : Shape := ⟨3, ![10, 12288, 4]⟩
abbrev S512x512 : Shape := ⟨2, ![512, 512]⟩
abbrev S1x512x4 : Shape := ⟨3, ![1, 512, 4]⟩
abbrev S512x1 : Shape := ⟨2, ![512, 1]⟩
abbrev S1x512 : Shape := ⟨2, ![1, 512]⟩
abbrev S512x4 : Shape := ⟨2, ![512, 4]⟩
abbrev S512x128 : Shape := ⟨2, ![512, 128]⟩
abbrev S128x512 : Shape := ⟨2, ![128, 512]⟩
abbrev S512x1024 : Shape := ⟨2, ![512, 1024]⟩
abbrev S_ : Shape := ⟨0, ![]⟩

abbrev nBuf : Space → Nat
  | .hbm => 22
  | .vmem => 29
  | .smem => 0
  | _ => 0

abbrev bufTy : (tb : Table) → Fin (tcTables nBuf tb) → BufTy
  | .hbm, ⟨0, _⟩ => ⟨S6x2048x5120, .fp8e4m3⟩
  | .hbm, ⟨1, _⟩ => ⟨S6x2048x40, .f32⟩
  | .hbm, ⟨2, _⟩ => ⟨S6x2048, .f32⟩
  | .hbm, ⟨3, _⟩ => ⟨S5120, .f32⟩
  | .hbm, ⟨4, _⟩ => ⟨S5120x7168, .fp8e4m3⟩
  | .hbm, ⟨5, _⟩ => ⟨S7168, .f32⟩
  | .hbm, ⟨6, _⟩ => ⟨S6x2048x7168, .bf16⟩
  | .hbm, ⟨7, _⟩ => ⟨S12288x5120, .fp8e4m3⟩
  | .hbm, ⟨8, _⟩ => ⟨S12288x40, .f32⟩
  | .hbm, ⟨9, _⟩ => ⟨S12288x1, .f32⟩
  | .hbm, ⟨10, _⟩ => ⟨S1x5120, .f32⟩
  | .hbm, ⟨11, _⟩ => ⟨S12288x7168, .bf16⟩
  | .hbm, ⟨12, _⟩ => ⟨S7168, .bf16⟩
  | .hbm, ⟨13, _⟩ => ⟨S1x7168, .bf16⟩
  | .hbm, ⟨14, _⟩ => ⟨S12288x5120, .bf16⟩
  | .hbm, ⟨15, _⟩ => ⟨S8x5120, .f32⟩
  | .hbm, ⟨16, _⟩ => ⟨S12288x10x4, .f32⟩
  | .hbm, ⟨17, _⟩ => ⟨S10x12288x4, .f32⟩
  | .hbm, ⟨18, _⟩ => ⟨S5120x7168, .f32⟩
  | .hbm, ⟨19, _⟩ => ⟨S6x2048x5120, .bf16⟩
  | .hbm, ⟨20, _⟩ => ⟨S_, .f32⟩
  | .hbm, ⟨21, _⟩ => ⟨S5120, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S256x40, .f32⟩
  | .local _ .vmem, ⟨3, _⟩ => ⟨S256x40, .f32⟩
  | .local _ .vmem, ⟨4, _⟩ => ⟨S256x1, .f32⟩
  | .local _ .vmem, ⟨5, _⟩ => ⟨S256x1, .f32⟩
  | .local _ .vmem, ⟨6, _⟩ => ⟨S1x5120, .f32⟩
  | .local _ .vmem, ⟨7, _⟩ => ⟨S5120x7168, .fp8e4m3⟩
  | .local _ .vmem, ⟨8, _⟩ => ⟨S1x7168, .bf16⟩
  | .local _ .vmem, ⟨9, _⟩ => ⟨S256x7168, .bf16⟩
  | .local _ .vmem, ⟨10, _⟩ => ⟨S256x7168, .bf16⟩
  | .local _ .vmem, ⟨11, _⟩ => ⟨S256x5120, .bf16⟩
  | .local _ .vmem, ⟨12, _⟩ => ⟨S256x5120, .bf16⟩
  | .local _ .vmem, ⟨13, _⟩ => ⟨S8x5120, .f32⟩
  | .local _ .vmem, ⟨14, _⟩ => ⟨S256x7168, .bf16⟩
  | .local _ .vmem, ⟨15, _⟩ => ⟨S256x5120, .f32⟩
  | .local _ .vmem, ⟨16, _⟩ => ⟨S512x512, .fp8e4m3⟩
  | .local _ .vmem, ⟨17, _⟩ => ⟨S512x512, .fp8e4m3⟩
  | .local _ .vmem, ⟨18, _⟩ => ⟨S1x512x4, .f32⟩
  | .local _ .vmem, ⟨19, _⟩ => ⟨S1x512x4, .f32⟩
  | .local _ .vmem, ⟨20, _⟩ => ⟨S512x1, .f32⟩
  | .local _ .vmem, ⟨21, _⟩ => ⟨S512x1, .f32⟩
  | .local _ .vmem, ⟨22, _⟩ => ⟨S1x512, .f32⟩
  | .local _ .vmem, ⟨23, _⟩ => ⟨S1x512, .f32⟩
  | .local _ .vmem, ⟨24, _⟩ => ⟨S512x7168, .bf16⟩
  | .local _ .vmem, ⟨25, _⟩ => ⟨S512x7168, .bf16⟩
  | .local _ .vmem, ⟨26, _⟩ => ⟨S512x7168, .f32⟩
  | .local _ .vmem, ⟨27, _⟩ => ⟨S512x7168, .f32⟩
  | .local _ .vmem, ⟨28, _⟩ => ⟨S512x512, .bf16⟩
  | _, _ => ⟨S6x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![10, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x7168 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x7168 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S6x2048x5120 : Shape := ⟨3, ![6, 2048, 5120]⟩
abbrev S6x2048x40 : Shape := ⟨3, ![6, 2048, 40]⟩
abbrev S6x2048 : Shape := ⟨2, ![6, 2048]⟩
abbrev S5120 : Shape := ⟨1, ![5120]⟩
abbrev S5120x7168 : Shape := ⟨2, ![5120, 7168]⟩
abbrev S7168 : Shape := ⟨1, ![7168]⟩
abbrev S6x2048x7168 : Shape := ⟨3, ![6, 2048, 7168]⟩
abbrev S6x2048x40x128 : Shape := ⟨4, ![6, 2048, 40, 128]⟩
abbrev S6x2048x40x1 : Shape := ⟨4, ![6, 2048, 40, 1]⟩
abbrev S6x2048x1 : Shape := ⟨3, ![6, 2048, 1]⟩
abbrev S1x1x5120 : Shape := ⟨3, ![1, 1, 5120]⟩
abbrev S1x7168 : Shape := ⟨2, ![1, 7168]⟩

abbrev nBuf : Space → Nat
  | .hbm => 10
  | .vmem => 10
  | .smem => 0
  | _ => 0

abbrev bufTy : (tb : Table) → Fin (tcTables nBuf tb) → BufTy
  | .hbm, ⟨0, _⟩ => ⟨S6x2048x5120, .fp8e4m3⟩
  | .hbm, ⟨1, _⟩ => ⟨S6x2048x40, .f32⟩
  | .hbm, ⟨2, _⟩ => ⟨S6x2048, .f32⟩
  | .hbm, ⟨3, _⟩ => ⟨S5120, .f32⟩
  | .hbm, ⟨4, _⟩ => ⟨S5120x7168, .fp8e4m3⟩
  | .hbm, ⟨5, _⟩ => ⟨S7168, .f32⟩
  | .hbm, ⟨6, _⟩ => ⟨S6x2048x7168, .bf16⟩
  | .hbm, ⟨7, _⟩ => ⟨S6x2048x5120, .bf16⟩
  | .hbm, ⟨8, _⟩ => ⟨S5120x7168, .f32⟩
  | .hbm, ⟨9, _⟩ => ⟨S5120, .f32⟩
  | .local _ .vmem, ⟨0, _⟩ => ⟨S6x2048x5120, .fp8e4m3⟩
  | .local _ .vmem, ⟨1, _⟩ => ⟨S6x2048x40, .f32⟩
  | .local _ .vmem, ⟨2, _⟩ => ⟨S6x2048, .f32⟩
  | .local _ .vmem, ⟨3, _⟩ => ⟨S5120, .f32⟩
  | .local _ .vmem, ⟨4, _⟩ => ⟨S5120x7168, .fp8e4m3⟩
  | .local _ .vmem, ⟨5, _⟩ => ⟨S7168, .f32⟩
  | .local _ .vmem, ⟨6, _⟩ => ⟨S6x2048x7168, .bf16⟩
  | .local _ .vmem, ⟨7, _⟩ => ⟨S6x2048x5120, .bf16⟩
  | .local _ .vmem, ⟨8, _⟩ => ⟨S5120x7168, .f32⟩
  | .local _ .vmem, ⟨9, _⟩ => ⟨S5120, .f32⟩
  | _, _ => ⟨S6x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2048x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x2048x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BlockSpec.lean ====
/- What one grid point of the two launches computes, written index by index over the extended reals. -/
module
public import proofs.«01_k».proof.Proof.Gen.KernelIdeal.Skeleton
public import Idealize.ShloMosaic.Lib.Pointwise

@[expose] public section
set_option maxRecDepth 16384
noncomputable section
namespace Cert.KernelIdeal.Val
open Idealize.ShloMosaic Idealize.ShloMosaic.TcCoe Idealize.ShloMosaic.Tactic
open Cert.KernelIdeal

/-- Entry (r, d) of the gradient with respect to the normalised row, from the block's rows of dy, the output scales and the codes of the weight. -/
def dxhB (x4 : Vec Ideal S5120x7168 .fp8e4m3) (x5 : Vec Ideal S1x7168 .bf16) (x6 : Vec Ideal S256x7168 .bf16)
    (r : Fin 256) (d : Fin 5120) : EReal :=
  ∑ n : Fin 7168, (x6 (ix2 r n) * x5 (ix2 0 n)) * x4 (ix2 d n)

/-- Entry (r, d) of the normalised activation of the block: the code times its block scale times the row's reciprocal root mean square. -/
def nB (x0 : Vec Ideal S256x5120 .fp8e4m3) (x1 : Vec Ideal S256x40 .f32) (x2 : Vec Ideal S256x1 .f32)
    (r : Fin 256) (d : Fin 5120) : EReal :=
  x0 (ix2 r d) * (x1 (ix2 r ⟨d.val / 128, by omega⟩) * x2 (ix2 r 0))

/-- Row s of the partial sum of dgamma at column d: what the row held, plus the block's rows s, s + 8, s + 16, … -/
def dgB (x0 : Vec Ideal S256x5120 .fp8e4m3) (x1 : Vec Ideal S256x40 .f32) (x2 : Vec Ideal S256x1 .f32)
    (x4 : Vec Ideal S5120x7168 .fp8e4m3) (x5 : Vec Ideal S1x7168 .bf16) (x6 : Vec Ideal S256x7168 .bf16)
    (s : Fin 8) (d : Fin 5120) : EReal :=
  ∑ k : Fin 32, dxhB x4 x5 x6 ⟨k.val * 8 + s.val, by omega⟩ d * nB x0 x1 x2 ⟨k.val * 8 + s.val, by omega⟩ d

/-- The mean of gradient times normalised activation over row r, the gain applied: the row's sum times 1/5120. -/
def mB (x0 : Vec Ideal S256x5120 .fp8e4m3) (x1 : Vec Ideal S256x40 .f32) (x2 : Vec Ideal S256x1 .f32) (x3 : Vec Ideal S1x5120 .f32)
    (x4 : Vec Ideal S5120x7168 .fp8e4m3) (x5 : Vec Ideal S1x7168 .bf16) (x6 : Vec Ideal S256x7168 .bf16)
    (r : Fin 256) : EReal :=
  (∑ d : Fin 5120, dxhB x4 x5 x6 r d * nB x0 x1 x2 r d * x3 (ix2 0 d)) * ((1 / 5120 : ℝ) : EReal)

/-- Entry (r, d) of the block of dx. -/
def dxB (x0 : Vec Ideal S256x5120 .fp8e4m3) (x1 : Vec Ideal S256x40 .f32) (x2 : Vec Ideal S256x1 .f32) (x3 : Vec Ideal S1x5120 .f32)
    (x4 : Vec Ideal S5120x7168 .fp8e4m3) (x5 : Vec Ideal S1x7168 .bf16) (x6 : Vec Ideal S256x7168 .bf16)
    (r : Fin 256) (d : Fin 5120) : EReal :=
  x2 (ix2 r 0) * (dxhB x4 x5 x6 r d * x3 (ix2 0 d) - nB x0 x1 x2 r d * mB x0 x1 x2 x3 x4 x5 x6 r)

/-- Entry (k, c) of the normalised activation in a block of 512 rows and 512 columns. -/
def n1B (x0 : Vec Ideal S512x512 .fp8e4m3) (x1 : Vec Ideal S1x512x4 .f32) (x2 : Vec Ideal S512x1 .f32) (k c : Fin 512) : EReal :=
  x0 (ix2 k c) * (x1 (ix3 0 k ⟨c.val / 128, by omega⟩) * x2 (ix2 k 0))

/-- What one block of 512 rows adds to entry (c, n) of the gradient of the weight. -/
def dwB (x0 : Vec Ideal S512x512 .fp8e4m3) (x1 : Vec Ideal S1x512x4 .f32) (x2 : Vec Ideal S512x1 .f32) (x3 : Vec Ideal S1x512 .f32)
    (x4 : Vec Ideal S512x7168 .bf16) (c : Fin 512) (n : Fin 7168) : EReal :=
  ∑ k : Fin 512, (n1B x0 x1 x2 k c * x3 (ix2 0 c)) * x4 (ix2 k n)

end Cert.KernelIdeal.Val
-- ==== Proof.ArgSpec.lean ====
/- The three results of the kernel, written index by index over the extended reals in the seven arguments. -/
module
public import proofs.«01_k».proof.Proof.Gen.KernelIdeal.Skeleton
public import Idealize.ShloMosaic.Lib.Pointwise

@[expose] public section
set_option maxRecDepth 16384
noncomputable section
namespace Cert.KernelIdeal.Val
open Idealize.ShloMosaic Idealize.ShloMosaic.TcCoe Idealize.ShloMosaic.Tactic
open Cert.KernelIdeal

/-- The seven arguments: the codes, block scales and reciprocal root mean squares of the activation, the gain, the codes and
    output scales of the weight, and the gradient of the output. -/
structure Args where
  a0 : Vec Ideal S6x2048x5120 .fp8e4m3
  a1 : Vec Ideal S6x2048x40 .f32
  a2 : Vec Ideal S6x2048 .f32
  a3 : Vec Ideal S5120 .f32
  a4 : Vec Ideal S5120x7168 .fp8e4m3
  a5 : Vec Ideal S7168 .f32
  a6 : Vec Ideal S6x2048x7168 .bf16

variable (A : Args)

/-- Entry (b, s, d) of the gradient with respect to the normalised activation. -/
def dxhS (b : Fin 6) (s : Fin 2048) (d : Fin 5120) : EReal :=
  ∑ n : Fin 7168, (A.a6 (ix3 b s n) * A.a5 (ix1 n)) * A.a4 (ix2 d n)

/-- Entry (b, s, d) of the normalised activation. -/
def nS (b : Fin 6) (s : Fin 2048) (d : Fin 5120) : EReal :=
  A.a0 (ix3 b s d) * (A.a1 (ix3 b s ⟨d.val / 128, by omega⟩) * A.a2 (ix2 b s))

/-- The mean over row (b, s) of gradient times normalised activation, the gain applied. -/
def mS (b : Fin 6) (s : Fin 2048) : EReal :=
  (∑ d : Fin 5120, dxhS A b s d * nS A b s d * A.a3 (ix1 d)) * ((1 / 5120 : ℝ) : EReal)

/-- Entry (b, s, d) of the gradient with respect to the activation. -/
def dxS (b : Fin 6) (s : Fin 2048) (d : Fin 5120) : EReal :=
  A.a2 (ix2 b s) * (dxhS A b s d * A.a3 (ix1 d) - nS A b s d * mS A b s)

/-- Entry d of the gradient with respect to the gain. -/
def dgS (d : Fin 5120) : EReal :=
  ∑ b : Fin 6, ∑ s : Fin 2048, dxhS A b s d * nS A b s d

/-- Entry (d, n) of the gradient with respect to the weight. -/
def dwS (d : Fin 5120) (n : Fin 7168) : EReal :=
  ∑ b : Fin 6, ∑ s : Fin 2048, (nS A b s d * A.a3 (ix1 d)) * A.a6 (ix3 b s n)

/-- A function of (batch, position) read at the flat row number t = 2048·b + s. -/
def flat (f : Fin 6 → Fin 2048 → EReal) (t : Fin 12288) : EReal :=
  f ⟨t.val / 2048, by omega⟩ ⟨t.val % 2048, by omega⟩

/-- A sum over m·n positions, taken in m stretches of n. -/
theorem sum_split {N : ℕ} (m n : ℕ) (h : m * n = N) (f : Fin N → EReal) :
    ∑ t : Fin N, f t = ∑ a : Fin m, ∑ b : Fin n,
      f ⟨a.val * n + b.val, h ▸ (by
        calc a.val * n + b.val < a.val * n + n := by omega
          _ = (a.val + 1) * n := by ring
          _ ≤ m * n := Nat.mul_le_mul_right _ a.isLt)⟩ := by
  subst h
  rw [← (finProdFinEquiv (m := m) (n := n)).sum_comp, Fintype.sum_prod_type]
  refine Finset.sum_congr rfl fun a _ => Finset.sum_congr rfl fun b _ => congrArg f (Fin.ext ?_)
  simp [finProdFinEquiv, Nat.add_comm, Nat.mul_comm]

/-- A sum over the flat rows is the sum over batches and positions. -/
theorem sum_flat (f : Fin 6 → Fin 2048 → EReal) : ∑ t : Fin 12288, flat f t = ∑ b : Fin 6, ∑ s : Fin 2048, f b s := by
  rw [sum_split 6 2048 rfl]
  refine Finset.sum_congr rfl fun b _ => Finset.sum_congr rfl fun s _ => ?_
  refine congrArg₂ f (Fin.ext ?_) (Fin.ext ?_)
  · change (b.val * 2048 + s.val) / 2048 = b.val
    omega
  · change (b.val * 2048 + s.val) % 2048 = s.val
    omega

end Cert.KernelIdeal.Val
-- ==== Proof.RowReads.lean ====
/- The blocks of the first launch's operands at a grid point, read off the arguments. -/
module
public import proofs.«01_k».proof.Proof.Gen.KernelIdeal.Frame
public import proofs.«01_k».proof.Proof.BlockSpec
public import proofs.«01_k».proof.Proof.ArgSpec
public import Idealize.ShloMosaic.Lib.Pipeline.ValueKit
public import Idealize.ShloMosaic.Lib.Claim
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

/-- The arguments as the program is launched with them. -/
def argsOf (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)

set_option maxHeartbeats 4000000

/-- The codes of the activation, laid out by flat rows. -/
theorem v0_at (c : Dev nD) (t : Fin 12288) (d : Fin 5120) :
    V1 m ρ c main_v0 (ix2 t d) = flat (fun b s => (argsOf m c).a0 (ix3 b s d)) t := by
  change StableHlo.after hostOps0 (fun b => m (c, b)) (Proc.devRef .tc main_v0) (ix2 t d) = _
  entry_read
  pointwise
  unfold flat argsOf
  blk_ext

/-- The block scales of the activation, laid out by flat rows. -/
theorem v1_at (c : Dev nD) (t : Fin 12288) (q : Fin 40) :
    V1 m ρ c main_v1 (ix2 t q) = flat (fun b s => (argsOf m c).a1 (ix3 b s q)) t := by
  change StableHlo.after hostOps0 (fun b => m (c, b)) (Proc.devRef .tc main_v1) (ix2 t q) = _
  entry_read
  pointwise
  unfold flat argsOf
  blk_ext

/-- The reciprocal root mean squares, laid out by flat rows. -/
theorem v2_at (c : Dev nD) (t : Fin 12288) :
    V1 m ρ c main_v2 (ix2 t (0 : Fin 1)) = flat (fun b s => (argsOf m c).a2 (ix2 b s)) t := by
  change StableHlo.after hostOps0 (fun b => m (c, b)) (Proc.devRef .tc main_v2) (ix2 t (0 : Fin 1)) = _
  entry_read
  pointwise
  unfold flat argsOf
  blk_ext

/-- The gain as a row. -/
theorem v3_at (c : Dev nD) (d : Fin 5120) :
    V1 m ρ c main_v3 (ix2 (0 : Fin 1) d) = (argsOf m c).a3 (ix1 d) := by
  change StableHlo.after hostOps0 (fun b => m (c, b)) (Proc.devRef .tc main_v3) (ix2 (0 : Fin 1) d) = _
  entry_read
  pointwise
  unfold argsOf
  blk_ext

/-- The gradient of the output, laid out by flat rows. -/
theorem v4_at (c : Dev nD) (t : Fin 12288) (n : Fin 7168) :
    V1 m ρ c main_v4 (ix2 t n) = flat (fun b s => (argsOf m c).a6 (ix3 b s n)) t := by
  change StableHlo.after hostOps0 (fun b => m (c, b)) (Proc.devRef .tc main_v4) (ix2 t n) = _
  entry_read
  pointwise
  unfold flat argsOf
  blk_ext

/-- The output scales of the weight as a row. -/
theorem v6_at (c : Dev nD) (n : Fin 7168) :
    V1 m ρ c main_v6 (ix2 (0 : Fin 1) n) = (argsOf m c).a5 (ix1 n) := by
  change StableHlo.after hostOps0 (fun b => m (c, b)) (Proc.devRef .tc main_v6) (ix2 (0 : Fin 1) n) = _
  entry_read
  pointwise
  unfold argsOf
  blk_ext

/-- The codes of the weight are the argument itself. -/
theorem arg4_at (c : Dev nD) (d : Fin 5120) (n : Fin 7168) :
    V1 m ρ c main_arg4 (ix2 d n) = (argsOf m c).a4 (ix2 d n) :=
  congrFun (W1_of m ρ c main_arg4 (by decide)) (ix2 d n)

/-- The second launch finds main_v0 as the first one found it. -/
theorem V3_v0 (c : Dev nD) : V3 m ρ c main_v0 = V1 m ρ c main_v0 :=
  (W3_of m ρ c main_v0 (by decide)).trans (W2_of m ρ c main_v0 (by decide))

/-- The second launch finds main_v2 as the first one found it. -/
theorem V3_v2 (c : Dev nD) : V3 m ρ c main_v2 = V1 m ρ c main_v2 :=
  (W3_of m ρ c main_v2 (by decide)).trans (W2_of m ρ c main_v2 (by decide))

/-- The second launch finds main_v3 as the first one found it. -/
theorem V3_v3 (c : Dev nD) : V3 m ρ c main_v3 = V1 m ρ c main_v3 :=
  (W3_of m ρ c main_v3 (by decide)).trans (W2_of m ρ c main_v3 (by decide))

/-- The second launch finds main_v4 as the first one found it. -/
theorem V3_v4 (c : Dev nD) : V3 m ρ c main_v4 = V1 m ρ c main_v4 :=
  (W3_of m ρ c main_v4 (by decide)).trans (W2_of m ρ c main_v4 (by decide))

/-- The block scales of the activation, cut into ten groups of four columns. -/
theorem v9_at (c : Dev nD) (i : Fin 10) (t : Fin 12288) (q : Fin 4) :
    V3 m ρ c main_v9 (ix3 i t q) = flat (fun b s => (argsOf m c).a1 (ix3 b s ⟨i.val * 4 + q.val, by omega⟩)) t := by
  rw [← v1_at m ρ c t]
  have e : W2 m ρ c (Proc.devRef .tc main_v1) = V1 m ρ c main_v1 := W2_of m ρ c main_v1 (by decide)
  rw [← e]
  change StableHlo.after hostOps1 (W2 m ρ c) (Proc.devRef .tc main_v9) (ix3 i t q) = _
  generalize W2 m ρ c = σ
  entry_read
  pointwise
  blk_ext

end Cert.KernelIdeal.Val
-- ==== Proof.Point0.lean ====
/- What a grid point of the first launch reads and computes, in the arguments. -/
module
public import proofs.«01_k».proof.Proof.RowReads

@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

set_option maxHeartbeats 4000000

/-- Which block of the codes grid point t of the first launch takes. -/
theorem idx0_0 : ∀ t, win0_0.index t = ![t.val, 0] := by decide +kernel
/-- Which block of the codes' scales grid point t of the first launch takes. -/
theorem idx0_1 : ∀ t, win0_1.index t = ![t.val, 0] := by decide +kernel
/-- Which block of the reciprocal deviations grid point t of the first launch takes. -/
theorem idx0_2 : ∀ t, win0_2.index t = ![t.val, 0] := by decide +kernel
/-- Which block of the weights γ grid point t of the first launch takes. -/
theorem idx0_3 : ∀ t, win0_3.index t = ![0, 0] := by decide +kernel
/-- Which block of the codes of W grid point t of the first launch takes. -/
theorem idx0_4 : ∀ t, win0_4.index t = ![0, 0] := by decide +kernel
/-- Which block of the scales of W grid point t of the first launch takes. -/
theorem idx0_5 : ∀ t, win0_5.index t = ![0, 0] := by decide +kernel
/-- Which block of the incoming gradient grid point t of the first launch takes. -/
theorem idx0_6 : ∀ t, win0_6.index t = ![t.val, 0] := by decide +kernel

/-- Row r of block t, as a flat row number. -/
def row0 (t : Fin 48) (r : Fin 256) : Fin 12288 := ⟨t.val * 256 + r.val, by omega⟩

/-- The block of the codes at grid point t of the first launch, entry by entry in the arguments. -/
theorem blk0_0 (c : Dev nD) (t : Fin cfg0.N) (r : Fin 256) (d : Fin 5120) :
    iblk0 (V1 m ρ) c 0 t (ix2 r d) = flat (fun b s => (argsOf m c).a0 (ix3 b s d)) (row0 t r) := by
  rw [← v0_at m ρ]
  generalize V1 m ρ = V
  blk_ext [iblk0, idx0_0 t, row0]

/-- The block of the codes' scales at grid point t of the first launch, entry by entry in the arguments. -/
theorem blk0_1 (c : Dev nD) (t : Fin cfg0.N) (r : Fin 256) (q : Fin 40) :
    iblk0 (V1 m ρ) c 1 t (ix2 r q) = flat (fun b s => (argsOf m c).a1 (ix3 b s q)) (row0 t r) := by
  rw [← v1_at m ρ]
  generalize V1 m ρ = V
  blk_ext [iblk0, idx0_1 t, row0]

/-- The block of the reciprocal deviations at grid point t of the first launch, entry by entry in the arguments. -/
theorem blk0_2 (c : Dev nD) (t : Fin cfg0.N) (r : Fin 256) :
    iblk0 (V1 m ρ) c 2 t (ix2 r (0 : Fin 1)) = flat (fun b s => (argsOf m c).a2 (ix2 b s)) (row0 t r) := by
  rw [← v2_at m ρ]
  generalize V1 m ρ = V
  blk_ext [iblk0, idx0_2 t, row0]

/-- The block of the weights γ at grid point t of the first launch, entry by entry in the arguments. -/
theorem blk0_3 (c : Dev nD) (t : Fin cfg0.N) (d : Fin 5120) :
    iblk0 (V1 m ρ) c 3 t (ix2 (0 : Fin 1) d) = (argsOf m c).a3 (ix1 d) := by
  rw [← v3_at m ρ]
  generalize V1 m ρ = V
  blk_ext [iblk0, idx0_3 t, row0]

/-- The block of the codes of W at grid point t of the first launch, entry by entry in the arguments. -/
theorem blk0_4 (c : Dev nD) (t : Fin cfg0.N) (d : Fin 5120) (n : Fin 7168) :
    iblk0 (V1 m ρ) c 4 t (ix2 d n) = (argsOf m c).a4 (ix2 d n) := by
  rw [← arg4_at m ρ]
  generalize V1 m ρ = V
  blk_ext [iblk0, idx0_4 t, row0]

/-- The block of the scales of W at grid point t of the first launch, entry by entry in the arguments. -/
theorem blk0_5 (c : Dev nD) (t : Fin cfg0.N) (n : Fin 7168) :
    iblk0 (V1 m ρ) c 5 t (ix2 (0 : Fin 1) n) = (argsOf m c).a5 (ix1 n) := by
  rw [← v6_at m ρ]
  generalize V1 m ρ = V
  blk_ext [iblk0, idx0_5 t, row0]

/-- The block of the incoming gradient at grid point t of the first launch, entry by entry in the arguments. -/
theorem blk0_6 (c : Dev nD) (t : Fin cfg0.N) (r : Fin 256) (n : Fin 7168) :
    iblk0 (V1 m ρ) c 6 t (ix2 r n) = flat (fun b s => (argsOf m c).a6 (ix3 b s n)) (row0 t r) := by
  rw [← v4_at m ρ]
  generalize V1 m ρ = V
  blk_ext [iblk0, idx0_6 t, row0]

/-- The gradient with respect to the normalised activation, at row r of block t. -/
theorem dxh_pt (c : Dev nD) (t : Fin cfg0.N) (r : Fin 256) (d : Fin 5120) :
    dxhB (iblk0 (V1 m ρ) c 4 t) (iblk0 (V1 m ρ) c 5 t) (iblk0 (V1 m ρ) c 6 t) r d = flat (fun b s => dxhS (argsOf m c) b s d) (row0 t r) := by
  unfold dxhB
  simp only [blk0_4, blk0_5, blk0_6]
  rfl

/-- The normalised activation, at row r of block t. -/
theorem n_pt (c : Dev nD) (t : Fin cfg0.N) (r : Fin 256) (d : Fin 5120) :
    nB (iblk0 (V1 m ρ) c 0 t) (iblk0 (V1 m ρ) c 1 t) (iblk0 (V1 m ρ) c 2 t) r d = flat (fun b s => nS (argsOf m c) b s d) (row0 t r) := by
  unfold nB
  simp only [blk0_0, blk0_1, blk0_2]
  rfl

/-- The block of dx, at row r of block t. -/
theorem dx_pt (c : Dev nD) (t : Fin cfg0.N) (r : Fin 256) (d : Fin 5120) :
    dxB (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) r d = flat (fun b s => dxS (argsOf m c) b s d) (row0 t r) := by
  unfold dxB mB
  simp only [dxh_pt, n_pt, blk0_2, blk0_3]
  rfl

/-- What block t adds to row s of the partial sums of dgamma. -/
theorem dg_pt (c : Dev nD) (t : Fin cfg0.N) (s : Fin 8) (d : Fin 5120) :
    dgB (iblk0 (V1 m ρ) c 0 t) (iblk0 (V1 m ρ) c 1 t) (iblk0 (V1 m ρ) c 2 t) (iblk0 (V1 m ρ) c 4 t) (iblk0 (V1 m ρ) c 5 t) (iblk0 (V1 m ρ) c 6 t) s d
      = ∑ k : Fin 32, flat (fun b p => dxhS (argsOf m c) b p d * nS (argsOf m c) b p d) (row0 t ⟨k.val * 8 + s.val, by omega⟩) := by
  unfold dgB
  simp only [dxh_pt, n_pt]
  rfl

end Cert.KernelIdeal.Val
-- ==== Proof.Reads.lean ====
/- How the stores of one grid point are read back. -/
module
public import proofs.«01_k».proof.Proof.Gen.KernelIdeal.Frame
public import Idealize.ShloMosaic.Lib.Pipeline.ValueKit
public import Idealize.ShloMosaic.Lib.Pipeline.ReadBack
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

/-- Reading a list of stores at an index that one of the first k covers does not need the others. -/
theorem canon_take {Val : EltTy → Type} {S : Shape} {e : EltTy} [∀ e, Nonempty (Val e)] (k : Nat) :
    ∀ (L : List (View.Piece Val S e)) (y : S.Idx), (∃ p ∈ L.take k, y ∈ p.1.set) → View.canon L y = View.canon (L.take k) y := by
  induction k with
  | zero => intro L y h; obtain ⟨p, hp, _⟩ := h; simp at hp
  | succ k ih =>
    intro L y h
    cases L with
    | nil => rfl
    | cons p L =>
      rw [List.take_succ_cons]
      by_cases hm : y ∈ p.1.set
      · obtain ⟨x, rfl⟩ := p.1.exists_idx_of_mem hm
        obtain ⟨r, w⟩ := p
        exact (View.canon_cons_emb r w L x).trans (View.canon_cons_emb r w (L.take k) x).symm
      · rw [View.canon_cons_of_not_mem p L hm, View.canon_cons_of_not_mem p (L.take k) hm]
        refine ih L y ?_
        obtain ⟨q, hq, hy⟩ := h
        rw [List.take_succ_cons] at hq
        rcases List.mem_cons.mp hq with rfl | hq
        · exact absurd hy hm
        · exact ⟨q, hq, hy⟩

/-- A load of part of the newest stored rectangle reads that store's payload, shifted. -/
theorem readCov_sub2 {sig : RefSig} {κ : Kind} {Val : EltTy → Type} {sp : Space} {A B a b a' b' p q p' q' : Nat} {e : EltTy}
    [∀ e, Nonempty (Val e)] (v : View sig κ sp ⟨2, ![A, B]⟩ e)
    (inb : ∀ x, (![p, q] : Fin 2 → Nat) x + (![a, b] : Fin 2 → Nat) x ≤ (⟨2, ![A, B]⟩ : Shape).size x)
    (w : (⟨2, ![a, b]⟩ : Shape).Idx → Val e) (L : List (View.Piece Val ⟨2, ![A, B]⟩ e))
    (inb' : ∀ x, (![p', q'] : Fin 2 → Nat) x + (![a', b'] : Fin 2 → Nat) x ≤ (⟨2, ![A, B]⟩ : Shape).size x)
    (h1 : p ≤ p') (h2 : q ≤ q') (h3 : p' + a' ≤ p + a) (h4 : q' + b' ≤ q + b) :
    v.readCov ((⟨Rect.unit ![p, q] ![a, b] inb, w⟩ : View.Piece Val ⟨2, ![A, B]⟩ e) :: L) (Rect.unit ![p', q'] ![a', b'] inb').toLoadRect
      = fun y : (⟨2, ![a', b']⟩ : Shape).Idx => w (ix2 ⟨p' - p + (y 0).val, by have := (y 0).isLt; simp at this; omega⟩ ⟨q' - q + (y 1).val, by have := (y 1).isLt; simp at this; omega⟩) := by
  rw [View.readCov_eq_canon']
  funext y
  have e : (Rect.unit (s := ⟨2, ![A, B]⟩) ![p', q'] ![a', b'] inb').toLoadRect.idx y
      = (Rect.unit (s := ⟨2, ![A, B]⟩) ![p, q] ![a, b] inb).emb (ix2 ⟨p' - p + (y 0).val, by have := (y 0).isLt; simp at this; omega⟩ ⟨q' - q + (y 1).val, by have := (y 1).isLt; simp at this; omega⟩) := by
    funext x
    apply Fin.ext
    match x with
    | ⟨0, _⟩ => show p' + 1 * (y 0).val = p + 1 * (p' - p + (y 0).val); omega
    | ⟨1, _⟩ => show q' + 1 * (y 1).val = q + 1 * (q' - q + (y 1).val); omega
  exact (congrArg (View.canon _) e).trans
    (View.canon_cons_emb (Rect.unit (s := ⟨2, ![A, B]⟩) ![p, q] ![a, b] inb) w L _)

end Cert.KernelIdeal.Val
-- ==== Proof.DxBlock.lean ====
/- What one point of the first launch leaves in its block of dx, entry by entry. -/
module
public import proofs.«01_k».proof.Proof.Gen.KernelIdeal.Frame
public import proofs.«01_k».proof.Proof.BlockSpec
public import proofs.«01_k».proof.Proof.Reads
public import Idealize.ShloMosaic.Lib.Pipeline.ValueKit
public import Idealize.ShloMosaic.Lib.Pipeline.ReadBack
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

/-- The program's literal for the mean's factor denotes exactly 1/5120. -/
theorem inv_d_val : Named.named (F := Ideal) (φ := .f32) κ "inv_d" 0x394CCCCD#32 = ((1 / 5120 : ℝ) : EReal) :=
  IdealRules.named_const.ideal_named_scalar _ _ _ _ rfl

/-- A sum over 5120 columns is the sum over 128 lanes of the sum over the 40 blocks. -/
theorem sum_lanes (f : Fin 5120 → EReal) :
    ∑ d : Fin 5120, f d = ∑ l : Fin 128, ∑ b ∈ Finset.range 40, f ⟨(b * 128 + l.val) % 5120, Nat.mod_lt _ (by decide)⟩ := by
  rw [Finset.sum_congr rfl fun l _ => (Finset.sum_range fun b => f ⟨(b * 128 + (l : Fin 128).val) % 5120, Nat.mod_lt _ (by decide)⟩),
    Finset.sum_comm, ← Fintype.sum_prod_type']
  refine (Fintype.sum_equiv (finProdFinEquiv (m := 40) (n := 128)) _ _ fun x => ?_).symm
  refine congrArg f (Fin.ext ?_)
  have h1 := x.1.isLt
  have h2 := x.2.isLt
  show (x.1.val * 128 + x.2.val) % 5120 = x.2.val + 128 * x.1.val
  omega

set_option maxHeartbeats 40000000 in
/-- What the first point leaves in its block of dx. -/
theorem out0_A_7_apply (c) (i) (arg1) (harg1) (arg2) (harg2) (arg3) (harg3) (arg4) (harg4) (arg5) (harg5) (arg6) (harg6) (arg7) (harg7) (arg8) (harg8) (arg9) (harg9) (arg10) (harg10) (arg11) (harg11) (hc0)
   (x0 : Vec Ideal S256x5120 .fp8e4m3) (x1 : Vec Ideal S256x40 .f32) (x2 : Vec Ideal S256x1 .f32) (x3 : Vec Ideal S1x5120 .f32) (x4 : Vec Ideal S5120x7168 .fp8e4m3) (x5 : Vec Ideal S1x7168 .bf16) (x6 : Vec Ideal S256x7168 .bf16) (y0 : Fin 256) (y1 : Fin 5120) :
   out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 (ix2 y0 y1) = dxB x0 x1 x2 x3 x4 x5 x6 y0 y1 := by
  frame_open
  simp (disch := decide) only [↓ View.readCov_skip, ↓ View.readCov_cons_toLoadRect, ↓ View.readCov_fill]
  frame_out
  simp (disch := decide) only [readCov_sub2, Nat.reduceSub]
  generalize hM : k0_pay167 (F := Ideal) _ _ _ _ _ _ _ = M
  have hM' : ∀ r : Fin 256, M (ix2 r 0) = ∑ d : Fin 5120, dxhB x4 x5 x6 r d * nB x0 x1 x2 r d * x3 (ix2 0 d) := by
    intro r
    rw [← hM, sum_lanes]
    clear hM M
    simp only [Finset.sum_range_succ, Finset.sum_range_zero]
    unfold_payloads
    pointwise [dxhB, nB]
    reads_congr
    all_goals blk_ext
  clear hM
  have e : dxB x0 x1 x2 x3 x4 x5 x6 y0 y1
      = x2 (ix2 y0 0) * (dxhB x4 x5 x6 y0 y1 * x3 (ix2 0 y1) - nB x0 x1 x2 y0 y1 * (M (ix2 y0 0) * Named.named (F := Ideal) (φ := .f32) κ "inv_d" 0x394CCCCD#32)) := by
    rw [dxB, mB, hM', inv_d_val]
  rw [e]
  clear e hM'
  canon_tiles x h
  all_goals
    change y0.val = _ at h0
    change y1.val = _ at h1
    unfold_payloads
    pointwise [dxhB, nB]
    reads_congr
    all_goals blk_ext

end Cert.KernelIdeal.Val
-- ==== Proof.DxLater.lean ====
/- At every point but the first the first launch computes the same block of dx as it would at the first point. -/
module
public import proofs.«01_k».proof.Proof.Gen.KernelIdeal.Frame
public import proofs.«01_k».proof.Proof.BlockSpec
public import proofs.«01_k».proof.Proof.Reads
public import Idealize.ShloMosaic.Lib.Pipeline.ValueKit
public import Idealize.ShloMosaic.Lib.Pipeline.ReadBack
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

set_option maxHeartbeats 40000000 in
/-- The block of dx does not depend on what the partial sums of dgamma held. -/
theorem out0_B_7_eq (c) (i i') (arg1) (harg1) (arg2) (harg2) (arg3) (harg3) (arg4) (harg4) (arg5) (harg5) (arg6) (harg6) (arg7) (harg7) (arg8) (harg8) (arg9) (harg9) (arg10) (harg10) (arg11) (harg11) (hc0) (hc0') (x0 : Vec Ideal S256x5120 .fp8e4m3) (x1 : Vec Ideal S256x40 .f32) (x2 : Vec Ideal S256x1 .f32) (x3 : Vec Ideal S1x5120 .f32) (x4 : Vec Ideal S5120x7168 .fp8e4m3) (x5 : Vec Ideal S1x7168 .bf16) (x6 : Vec Ideal S256x7168 .bf16) (xo8 : Vec Ideal S8x5120 .f32) :
   out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo8 = out0_A_7 (F := Ideal) c i' arg1 harg1 arg2 harg2 arg3 harg3 arg4 harg4 arg5 harg5 arg6 harg6 arg7 harg7 arg8 harg8 arg9 harg9 arg10 harg10 arg11 harg11 hc0' x0 x1 x2 x3 x4 x5 x6 := by
  frame_open
  rfl

end Cert.KernelIdeal.Val
-- ==== Proof.DgFirst.lean ====
/- What one point of the first launch leaves in the partial sums of dgamma, at the first point, entry by entry. -/
module
public import proofs.«01_k».proof.Proof.Gen.KernelIdeal.Frame
public import proofs.«01_k».proof.Proof.BlockSpec
public import proofs.«01_k».proof.Proof.Reads
public import Idealize.ShloMosaic.Lib.Pipeline.ValueKit
public import Idealize.ShloMosaic.Lib.Pipeline.ReadBack
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

set_option maxHeartbeats 40000000 in
/-- What the first point leaves in the partial sums of dgamma: its block's. -/
theorem out0_A_8_apply (c) (i) (arg1) (harg1) (arg2) (harg2) (arg3) (harg3) (arg4) (harg4) (arg5) (harg5) (arg6) (harg6) (arg7) (harg7) (arg8) (harg8) (arg9) (harg9) (arg10) (harg10) (arg11) (harg11) (hc0)
   (x0 : Vec Ideal S256x5120 .fp8e4m3) (x1 : Vec Ideal S256x40 .f32) (x2 : Vec Ideal S256x1 .f32) (x3 : Vec Ideal S1x5120 .f32) (x4 : Vec Ideal S5120x7168 .fp8e4m3) (x5 : Vec Ideal S1x7168 .bf16) (x6 : Vec Ideal S256x7168 .bf16) (y0 : Fin 8) (y1 : Fin 5120) :
   out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 (ix2 y0 y1) = dgB x0 x1 x2 x4 x5 x6 y0 y1 := by
  frame_open
  simp (disch := decide) only [↓ View.readCov_skip, ↓ View.readCov_cons_toLoadRect, ↓ View.readCov_fill]
  frame_out
  rw [canon_take 40 _ _ (View.cover_of_tiledL _ ![8, 128] (by sl_kernel_rfl) _)]
  simp only [List.take_succ_cons, List.take_zero]
  canon_tiles x h
  all_goals
    change y0.val = _ at h0
    change y1.val = _ at h1
    unfold_payloads
    pointwise [dgB, dxhB, nB]
    reads_congr
    all_goals blk_ext

end Cert.KernelIdeal.Val
-- ==== Proof.DgLater.lean ====
/- What one point of the first launch leaves in the partial sums of dgamma, after the first point, entry by entry. -/
module
public import proofs.«01_k».proof.Proof.Gen.KernelIdeal.Frame
public import proofs.«01_k».proof.Proof.BlockSpec
public import proofs.«01_k».proof.Proof.Reads
public import Idealize.ShloMosaic.Lib.Pipeline.ValueKit
public import Idealize.ShloMosaic.Lib.Pipeline.ReadBack
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

set_option maxHeartbeats 40000000 in
/-- What a later point leaves in the partial sums of dgamma: what they held, plus its block's. -/
theorem out0_B_8_apply (c) (i) (arg1) (harg1) (arg2) (harg2) (arg3) (harg3) (arg4) (harg4) (arg5) (harg5) (arg6) (harg6) (arg7) (harg7) (arg8) (harg8) (arg9) (harg9) (arg10) (harg10) (arg11) (harg11) (hc0)
   (x0 : Vec Ideal S256x5120 .fp8e4m3) (x1 : Vec Ideal S256x40 .f32) (x2 : Vec Ideal S256x1 .f32) (x3 : Vec Ideal S1x5120 .f32) (x4 : Vec Ideal S5120x7168 .fp8e4m3) (x5 : Vec Ideal S1x7168 .bf16) (x6 : Vec Ideal S256x7168 .bf16) (xo8 : Vec Ideal S8x5120 .f32) (y0 : Fin 8) (y1 : Fin 5120) :
   out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 xo8 (ix2 y0 y1) = xo8 (ix2 y0 y1) + dgB x0 x1 x2 x4 x5 x6 y0 y1 := by
  frame_open
  simp (disch := decide) only [↓ View.readCov_skip, ↓ View.readCov_cons_toLoadRect, ↓ View.readCov_fill]
  frame_out
  canon_tiles x h
  all_goals
    change y0.val = _ at h0
    change y1.val = _ at h1
    unfold_payloads
    pointwise [dgB, dxhB, nB]
    reads_congr
    all_goals blk_ext

end Cert.KernelIdeal.Val
-- ==== Proof.Outs0.lean ====
/- What the first launch's output blocks hold after each grid point, in the arguments. -/
module
public import proofs.«01_k».proof.Proof.RowReads
public import proofs.«01_k».proof.Proof.Point0
public import proofs.«01_k».proof.Proof.DxBlock
public import proofs.«01_k».proof.Proof.DxLater
public import proofs.«01_k».proof.Proof.DgFirst
public import proofs.«01_k».proof.Proof.DgLater
public import Idealize.ShloMosaic.Lib.Pipeline.ValueKit
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

set_option maxHeartbeats 4000000

/-- After point t the block of dx holds the block's rows of dx. -/
theorem outs0_1 (c : Dev nD) (t : Fin cfg0.N) (r : Fin 256) (d : Fin 5120) :
    (outsAt0 (V1 m ρ) c t.val t.isLt).1 (ix2 r d) = flat (fun b s => dxS (argsOf m c) b s d) (row0 t r) := by
  refine Eq.trans ?_ (dx_pt m ρ c t r d)
  by_cases h0 : t.val % 48 = 0
  · refine (congrFun (congrArg Prod.fst (outsAt0_A (V1 m ρ) c t h0)) _).trans ?_
    exact out0_A_7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) r d
  · refine (congrFun (congrArg Prod.fst (outsAt0_B (V1 m ρ) c t h0)) _).trans ?_
    have hz : cond0_0 (grid0.coords (⟨0, by decide⟩ : Fin cfg0.N)) := (hcond0_0 ⟨0, by decide⟩).mpr rfl
    refine (congrFun (out0_B_7_eq c (grid0.coords t) _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) hz (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (outsAt0 (V1 m ρ) c (t.val - 1) (Nat.lt_of_le_of_lt (Nat.sub_le _ _) t.isLt)).2) _).trans ?_
    exact out0_A_7_apply c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hz (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) r d

/-- At the first point the partial sums of dgamma are the block's additions. -/
theorem outs0_2_first (c : Dev nD) (t : Fin cfg0.N) (h0 : t.val % 48 = 0) (s : Fin 8) (d : Fin 5120) :
    (outsAt0 (V1 m ρ) c t.val t.isLt).2 (ix2 s d) = ∑ k : Fin 32, flat (fun b p => dxhS (argsOf m c) b p d * nS (argsOf m c) b p d) (row0 t ⟨k.val * 8 + s.val, by omega⟩) := by
  refine Eq.trans ?_ (dg_pt m ρ c t s d)
  refine (congrFun (congrArg Prod.snd (outsAt0_A (V1 m ρ) c t h0)) _).trans ?_
  exact out0_A_8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) s d

/-- At a later point the partial sums of dgamma grow by the block's additions. -/
theorem outs0_2_later (c : Dev nD) (t : Fin cfg0.N) (h0 : ¬t.val % 48 = 0) (s : Fin 8) (d : Fin 5120) :
    (outsAt0 (V1 m ρ) c t.val t.isLt).2 (ix2 s d)
      = (outsAt0 (V1 m ρ) c (t.val - 1) (Nat.lt_of_le_of_lt (Nat.sub_le _ _) t.isLt)).2 (ix2 s d) + ∑ k : Fin 32, flat (fun b p => dxhS (argsOf m c) b p d * nS (argsOf m c) b p d) (row0 t ⟨k.val * 8 + s.val, by omega⟩) := by
  refine Eq.trans ?_ (congrArg ((outsAt0 (V1 m ρ) c (t.val - 1) (Nat.lt_of_le_of_lt (Nat.sub_le _ _) t.isLt)).2 (ix2 s d) + ·) (dg_pt m ρ c t s d))
  refine (congrFun (congrArg Prod.snd (outsAt0_B (V1 m ρ) c t h0)) _).trans ?_
  exact out0_B_8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (outsAt0 (V1 m ρ) c (t.val - 1) (Nat.lt_of_le_of_lt (Nat.sub_le _ _) t.isLt)).2 s d

/-- After the last point the partial sums of dgamma hold the sums of every block's additions. -/
theorem outs0_2 (c : Dev nD) (t : Fin cfg0.N) (ht : t.val + 1 = cfg0.N) (s : Fin 8) (d : Fin 5120) :
    (outsAt0 (V1 m ρ) c t.val t.isLt).2 (ix2 s d)
      = ∑ t : Fin 48, ∑ k : Fin 32, flat (fun b p => dxhS (argsOf m c) b p d * nS (argsOf m c) b p d) (row0 t ⟨k.val * 8 + s.val, by omega⟩) := by
  have key : (outsAt0 (V1 m ρ) c t.val t.isLt).2 (ix2 s d)
      = 0 + ∑ t : Fin 48, ∑ k : Fin 32, flat (fun b p => dxhS (argsOf m c) b p d * nS (argsOf m c) b p d) (row0 t ⟨k.val * 8 + s.val, by omega⟩) :=
    Pipeline.eq_sum_fin_of_reset_step_apply_last
    (fun n h (j : Fin 8 × Fin 5120) => ((outsAt0 (V1 m ρ) c n h).2 (ix2 j.1 j.2) : EReal)) 48 (fun _ => (0 : EReal))
    (fun t j => ∑ k : Fin 32, flat (fun b p => dxhS (argsOf m c) b p j.2 * nS (argsOf m c) b p j.2) (row0 t ⟨k.val * 8 + j.1.val, by omega⟩))
    (fun t h0 j => (outs0_2_first m ρ c t h0 j.1 j.2).trans (zero_add _).symm)
    (fun t h0 j => outs0_2_later m ρ c t h0 j.1 j.2)
    (by decide) t ht (s, d)
  exact key.trans (zero_add _)

end Cert.KernelIdeal.Val
-- ==== Proof.Point1.lean ====
/- What a grid point of the second launch reads and computes, in the arguments. -/
module
public import proofs.«01_k».proof.Proof.RowReads

@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

set_option maxHeartbeats 4000000

/-- Which block of the codes grid point t of the second launch takes. -/
theorem idx1_0 : ∀ t, win1_0.index t = ![t.val % 24, t.val / 24] := by decide +kernel
/-- Which block of the codes' scales grid point t of the second launch takes. -/
theorem idx1_1 : ∀ t, win1_1.index t = ![t.val / 24, t.val % 24, 0] := by decide +kernel
/-- Which block of the reciprocal deviations grid point t of the second launch takes. -/
theorem idx1_2 : ∀ t, win1_2.index t = ![t.val % 24, 0] := by decide +kernel
/-- Which block of the weights γ grid point t of the second launch takes. -/
theorem idx1_3 : ∀ t, win1_3.index t = ![0, t.val / 24] := by decide +kernel
/-- Which block of the incoming gradient grid point t of the second launch takes. -/
theorem idx1_4 : ∀ t, win1_4.index t = ![t.val % 24, 0] := by decide +kernel

/-- Row k of the block of rows read at point t, as a flat row number. -/
def row1 (t : Fin 240) (k : Fin 512) : Fin 12288 := ⟨t.val % 24 * 512 + k.val, by omega⟩
/-- Column e of the block of columns read at point t, as a column of the whole array. -/
def col1 (t : Fin 240) (e : Fin 512) : Fin 5120 := ⟨t.val / 24 * 512 + e.val, by omega⟩

/-- The block of the codes at grid point t of the second launch, entry by entry in the arguments. -/
theorem blk1_0 (c : Dev nD) (t : Fin cfg1.N) (k e : Fin 512) :
    iblk1 (V3 m ρ) c 0 t (ix2 k e) = flat (fun b s => (argsOf m c).a0 (ix3 b s (col1 t e))) (row1 t k) := by
  rw [← v0_at m ρ, ← V3_v0 m ρ]
  generalize V3 m ρ = V
  blk_ext [iblk1, idx1_0 t, row1, col1]

/-- The block of the codes' scales at grid point t of the second launch, entry by entry in the arguments. -/
theorem blk1_1 (c : Dev nD) (t : Fin cfg1.N) (k : Fin 512) (q : Fin 4) :
    iblk1 (V3 m ρ) c 1 t (ix3 (0 : Fin 1) k q) = V3 m ρ c main_v9 (ix3 (⟨t.val / 24, by have := t.isLt; change t.val < 240 at this; omega⟩ : Fin 10) (row1 t k) q) := by
  generalize V3 m ρ = V
  blk_ext [iblk1, idx1_1 t, row1]

/-- The block of the reciprocal deviations at grid point t of the second launch, entry by entry in the arguments. -/
theorem blk1_2 (c : Dev nD) (t : Fin cfg1.N) (k : Fin 512) :
    iblk1 (V3 m ρ) c 2 t (ix2 k (0 : Fin 1)) = flat (fun b s => (argsOf m c).a2 (ix2 b s)) (row1 t k) := by
  rw [← v2_at m ρ, ← V3_v2 m ρ]
  generalize V3 m ρ = V
  blk_ext [iblk1, idx1_2 t, row1, col1]

/-- The block of the weights γ at grid point t of the second launch, entry by entry in the arguments. -/
theorem blk1_3 (c : Dev nD) (t : Fin cfg1.N) (e : Fin 512) :
    iblk1 (V3 m ρ) c 3 t (ix2 (0 : Fin 1) e) = (argsOf m c).a3 (ix1 (col1 t e)) := by
  rw [← v3_at m ρ, ← V3_v3 m ρ]
  generalize V3 m ρ = V
  blk_ext [iblk1, idx1_3 t, row1, col1]

/-- The block of the incoming gradient at grid point t of the second launch, entry by entry in the arguments. -/
theorem blk1_4 (c : Dev nD) (t : Fin cfg1.N) (k : Fin 512) (n : Fin 7168) :
    iblk1 (V3 m ρ) c 4 t (ix2 k n) = flat (fun b s => (argsOf m c).a6 (ix3 b s n)) (row1 t k) := by
  rw [← v4_at m ρ, ← V3_v4 m ρ]
  generalize V3 m ρ = V
  blk_ext [iblk1, idx1_4 t, row1, col1]

/-- The normalised activation, at row k and column e of point t. -/
theorem n1_pt (c : Dev nD) (t : Fin cfg1.N) (k e : Fin 512) :
    n1B (iblk1 (V3 m ρ) c 0 t) (iblk1 (V3 m ρ) c 1 t) (iblk1 (V3 m ρ) c 2 t) k e = flat (fun b s => nS (argsOf m c) b s (col1 t e)) (row1 t k) := by
  unfold n1B
  rw [blk1_0, blk1_1, blk1_2, v9_at]
  have hq : (⟨t.val / 24 * 4 + e.val / 128, by have := t.isLt; change t.val < 240 at this; omega⟩ : Fin 40)
      = ⟨(col1 t e).val / 128, by omega⟩ := Fin.ext (by simp only [col1]; omega)
  unfold flat nS
  rw [← hq]

/-- What point t adds to entry (e, n) of its block of the gradient of the weight. -/
theorem dw_pt (c : Dev nD) (t : Fin cfg1.N) (e : Fin 512) (n : Fin 7168) :
    dwB (iblk1 (V3 m ρ) c 0 t) (iblk1 (V3 m ρ) c 1 t) (iblk1 (V3 m ρ) c 2 t) (iblk1 (V3 m ρ) c 3 t) (iblk1 (V3 m ρ) c 4 t) e n
      = ∑ k : Fin 512, flat (fun b s => (nS (argsOf m c) b s (col1 t e) * (argsOf m c).a3 (ix1 (col1 t e))) * (argsOf m c).a6 (ix3 b s n)) (row1 t k) := by
  unfold dwB
  simp only [n1_pt, blk1_3, blk1_4]
  rfl

end Cert.KernelIdeal.Val
-- ==== Proof.DwBlock.lean ====
/- What one point of the second launch leaves in its block of the gradient of the weight, entry by entry. -/
module
public import proofs.«01_k».proof.Proof.Gen.KernelIdeal.Frame
public import proofs.«01_k».proof.Proof.BlockSpec
public import proofs.«01_k».proof.Proof.Reads
public import Idealize.ShloMosaic.Lib.Pipeline.ValueKit
public import Idealize.ShloMosaic.Lib.Pipeline.ReadBack
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

set_option maxHeartbeats 40000000 in
/-- What the first point of a row block leaves in the gradient of the weight. -/
theorem out1_A_5_apply (c) (i) (arg2) (harg2) (arg3) (harg3) (arg4) (harg4) (arg5) (harg5) (arg6) (harg6) (arg7) (harg7) (arg8) (harg8) (hc0)
   (x0 : Vec Ideal S512x512 .fp8e4m3) (x1 : Vec Ideal S1x512x4 .f32) (x2 : Vec Ideal S512x1 .f32) (x3 : Vec Ideal S1x512 .f32) (x4 : Vec Ideal S512x7168 .bf16) (y0 : Fin 512) (y1 : Fin 7168) :
   out1_A_5 (F := Ideal) c i arg2 harg2 arg3 harg3 arg4 harg4 arg5 harg5 arg6 harg6 arg7 harg7 arg8 harg8 hc0 x0 x1 x2 x3 x4 (ix2 y0 y1) = dwB x0 x1 x2 x3 x4 y0 y1 := by
  frame_open
  simp (disch := decide) only [↓ View.readCov_skip, ↓ View.readCov_cons_toLoadRect, ↓ View.readCov_fill]
  frame_out
  generalize hT : View.readCov (Val := Elt Ideal) arg8.view _ _ = T
  have hT' : ∀ (a b : Fin 512), T (ix2 a b) = n1B x0 x1 x2 b a * x3 (ix2 0 a) := by
    intro a b
    rw [← hT, View.readCov_eq_canon']
    clear hT T
    refine Eq.trans (congrArg (View.canon _) (a₂ := (ix2 a b : S512x512.Idx)) ?_) ?_
    · funext q
      apply Fin.ext
      match q with
      | ⟨0, _⟩ => show 0 + 1 * a.val = a.val; omega
      | ⟨1, _⟩ => show 0 + 1 * b.val = b.val; omega
    canon_tiles x h
    all_goals
      change a.val = _ at h0
      change b.val = _ at h1
      unfold_payloads
      pointwise [n1B]
      reads_congr
      all_goals blk_ext
  clear hT
  rw [canon_take 7 _ _ (View.cover_of_tiledL _ ![512, 1024] (by sl_kernel_rfl) _)]
  simp only [List.take_succ_cons, List.take_zero]
  simp only [dwB, ← hT']
  clear hT'
  canon_tiles x h
  all_goals
    change y0.val = _ at h0
    change y1.val = _ at h1
    unfold_payloads
    pointwise
    reads_congr
    all_goals blk_ext

set_option maxHeartbeats 40000000 in
/-- What a later point of a row block leaves in the gradient of the weight. -/
theorem out1_B_5_apply (c) (i) (arg2) (harg2) (arg3) (harg3) (arg4) (harg4) (arg5) (harg5) (arg6) (harg6) (arg7) (harg7) (arg8) (harg8) (hc0)
   (x0 : Vec Ideal S512x512 .fp8e4m3) (x1 : Vec Ideal S1x512x4 .f32) (x2 : Vec Ideal S512x1 .f32) (x3 : Vec Ideal S1x512 .f32) (x4 : Vec Ideal S512x7168 .bf16) (xo5 : Vec Ideal S512x7168 .f32) (y0 : Fin 512) (y1 : Fin 7168) :
   out1_B_5 (F := Ideal) c i arg2 harg2 arg3 harg3 arg4 harg4 arg5 harg5 arg6 harg6 arg7 harg7 arg8 harg8 hc0 x0 x1 x2 x3 x4 xo5 (ix2 y0 y1) = xo5 (ix2 y0 y1) + dwB x0 x1 x2 x3 x4 y0 y1 := by
  frame_open
  simp (disch := decide) only [↓ View.readCov_skip, ↓ View.readCov_cons_toLoadRect, ↓ View.readCov_fill]
  frame_out
  generalize hT : View.readCov (Val := Elt Ideal) arg8.view _ _ = T
  have hT' : ∀ (a b : Fin 512), T (ix2 a b) = n1B x0 x1 x2 b a * x3 (ix2 0 a) := by
    intro a b
    rw [← hT, View.readCov_eq_canon']
    clear hT T
    refine Eq.trans (congrArg (View.canon _) (a₂ := (ix2 a b : S512x512.Idx)) ?_) ?_
    · funext q
      apply Fin.ext
      match q with
      | ⟨0, _⟩ => show 0 + 1 * a.val = a.val; omega
      | ⟨1, _⟩ => show 0 + 1 * b.val = b.val; omega
    canon_tiles x h
    all_goals
      change a.val = _ at h0
      change b.val = _ at h1
      unfold_payloads
      pointwise [n1B]
      reads_congr
      all_goals blk_ext
  clear hT
  simp only [dwB, ← hT']
  clear hT'
  canon_tiles x h
  all_goals
    change y0.val = _ at h0
    change y1.val = _ at h1
    unfold_payloads
    pointwise
    reads_congr
    all_goals blk_ext

end Cert.KernelIdeal.Val
-- ==== Proof.Outs1.lean ====
/- What the second launch's output block holds when it is written back, in the arguments. -/
module
public import proofs.«01_k».proof.Proof.RowReads
public import proofs.«01_k».proof.Proof.Point1
public import proofs.«01_k».proof.Proof.DwBlock
public import Idealize.ShloMosaic.Lib.Pipeline.ValueKit
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

set_option maxHeartbeats 4000000

/-- At the first point of a block of columns the block holds the first block of rows' contribution. -/
theorem outs1_first (c : Dev nD) (t : Fin cfg1.N) (h0 : t.val % 24 = 0) (e : Fin 512) (n : Fin 7168) :
    outsAt1 (V3 m ρ) c t.val t.isLt (ix2 e n) = ∑ k : Fin 512, flat (fun b s => (nS (argsOf m c) b s (col1 t e) * (argsOf m c).a3 (ix1 (col1 t e))) * (argsOf m c).a6 (ix3 b s n)) (row1 t k) := by
  refine Eq.trans ?_ (dw_pt m ρ c t e n)
  refine (congrFun (outsAt1_A (V3 m ρ) c t h0) _).trans ?_
  exact out1_A_5_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 (V3 m ρ) c 0 t) (iblk1 (V3 m ρ) c 1 t) (iblk1 (V3 m ρ) c 2 t) (iblk1 (V3 m ρ) c 3 t) (iblk1 (V3 m ρ) c 4 t) e n

/-- At a later point the block grows by that block of rows' contribution. -/
theorem outs1_later (c : Dev nD) (t : Fin cfg1.N) (h0 : ¬t.val % 24 = 0) (e : Fin 512) (n : Fin 7168) :
    outsAt1 (V3 m ρ) c t.val t.isLt (ix2 e n) = (outsAt1 (V3 m ρ) c (t.val - 1) (Nat.lt_of_le_of_lt (Nat.sub_le _ _) t.isLt)) (ix2 e n) + ∑ k : Fin 512, flat (fun b s => (nS (argsOf m c) b s (col1 t e) * (argsOf m c).a3 (ix1 (col1 t e))) * (argsOf m c).a6 (ix3 b s n)) (row1 t k) := by
  refine Eq.trans ?_ (congrArg ((outsAt1 (V3 m ρ) c (t.val - 1) (Nat.lt_of_le_of_lt (Nat.sub_le _ _) t.isLt)) (ix2 e n) + ·) (dw_pt m ρ c t e n))
  refine (congrFun (outsAt1_B (V3 m ρ) c t h0) _).trans ?_
  exact out1_B_5_apply c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 (V3 m ρ) c 0 t) (iblk1 (V3 m ρ) c 1 t) (iblk1 (V3 m ρ) c 2 t) (iblk1 (V3 m ρ) c 3 t) (iblk1 (V3 m ρ) c 4 t) (outsAt1 (V3 m ρ) c (t.val - 1) (Nat.lt_of_le_of_lt (Nat.sub_le _ _) t.isLt)) e n

/-- When a block of columns is written back it holds its entries of the gradient of the weight. -/
theorem outs1_last (c : Dev nD) (t : Fin cfg1.N) (ht : t.val % 24 = 24 - 1) (e : Fin 512) (n : Fin 7168) :
    outsAt1 (V3 m ρ) c t.val t.isLt (ix2 e n) = dwS (argsOf m c) (col1 t e) n := by
  have key : outsAt1 (V3 m ρ) c t.val t.isLt (ix2 e n)
      = 0 + ∑ q : Fin 24, (fun (t : Fin cfg1.N) (j : Fin 512 × Fin 7168) => ∑ k : Fin 512, flat (fun b s => (nS (argsOf m c) b s (col1 t j.1) * (argsOf m c).a3 (ix1 (col1 t j.1))) * (argsOf m c).a6 (ix3 b s j.2)) (row1 t k)) ⟨24 * (t.val / 24) + q.val, Pipeline.run_point_lt_of_flush t ht q⟩ (e, n) :=
    Pipeline.eq_sum_fin_of_reset_step_apply_of_flush
    (fun q h (j : Fin 512 × Fin 7168) => (outsAt1 (V3 m ρ) c q h (ix2 j.1 j.2) : EReal)) 24 (fun _ => (0 : EReal))
    (fun t j => ∑ k : Fin 512, flat (fun b s => (nS (argsOf m c) b s (col1 t j.1) * (argsOf m c).a3 (ix1 (col1 t j.1))) * (argsOf m c).a6 (ix3 b s j.2)) (row1 t k))
    (fun t h0 j => (outs1_first m ρ c t h0 j.1 j.2).trans (zero_add _).symm)
    (fun t h0 j => outs1_later m ρ c t h0 j.1 j.2)
    t ht (e, n)
  refine key.trans ((zero_add _).trans ?_)
  unfold dwS
  rw [← sum_flat (fun b s => (nS (argsOf m c) b s (col1 t e) * (argsOf m c).a3 (ix1 (col1 t e))) * (argsOf m c).a6 (ix3 b s n)), sum_split 24 512 rfl]
  refine Finset.sum_congr rfl fun q _ => Finset.sum_congr rfl fun k _ => ?_
  have hc : col1 ⟨24 * (t.val / 24) + q.val, Pipeline.run_point_lt_of_flush t ht q⟩ e = col1 t e :=
    Fin.ext (by simp only [col1]; omega)
  have hr : row1 ⟨24 * (t.val / 24) + q.val, Pipeline.run_point_lt_of_flush t ht q⟩ k = ⟨q.val * 512 + k.val, by omega⟩ :=
    Fin.ext (by simp only [row1]; omega)
  exact congrArg₂ (fun (x : Fin 5120) (y : Fin 12288) =>
    flat (fun b s => (nS (argsOf m c) b s x * (argsOf m c).a3 (ix1 x)) * (argsOf m c).a6 (ix3 b s n)) y) hc hr

end Cert.KernelIdeal.Val
-- ==== Proof.Arrays.lean ====
/- What the two launches leave in their output arrays, in the arguments. -/
module
public import proofs.«01_k».proof.Proof.RowReads
public import proofs.«01_k».proof.Proof.Outs0
public import proofs.«01_k».proof.Proof.Outs1
public import Idealize.ShloMosaic.Lib.Pipeline.ValueKit
@[expose] public section
set_option maxRecDepth 16384
noncomputable section
namespace Cert.KernelIdeal.Val
open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

set_option maxHeartbeats 4000000

/-- Which block of dx grid point t of the first launch takes. -/
theorem idx0_7 : ∀ t, win0_7.index t = ![t.val, 0] := by decide +kernel
/-- Which block of dW grid point t of the second launch takes. -/
theorem idx1_5 : ∀ t, win1_5.index t = ![t.val / 24, 0] := by decide +kernel

/-- The first launch leaves dx, row by row. -/
theorem arr0_7 (c : Dev nD) :
    (dat0 (V1 m ρ) c).arrAt 7 cfg0.N = fun i => flat (fun b s => dxS (argsOf m c) b s (i 1)) (i 0) := by
  refine (dat0 (V1 m ρ) c).arrAt_eq_of_covers 7 _ (by decide +kernel) fun t hf y => ?_
  blk_simp
  rw [after0_7]
  obtain ⟨r, d, rfl⟩ : ∃ (r : Fin 256) (d : Fin 5120), y = (ix2 r d : S256x5120.Idx) :=
    ⟨y 0, y 1, by funext a; match a with | ⟨0, _⟩ => rfl | ⟨1, _⟩ => rfl⟩
  refine (outs0_1 m ρ c t r d).trans ?_
  have h0 : row0 t r = (win0_7.blk t).view.emb (ix2 r d : S256x5120.Idx) 0 := by
    apply Fin.ext
    blk_simp [idx0_7 t, row0]
  have h1 : d = (win0_7.blk t).view.emb (ix2 r d : S256x5120.Idx) 1 := by
    apply Fin.ext
    blk_simp [idx0_7 t]
  exact congrArg₂ (fun (x : Fin 5120) (y : Fin 12288) => flat (fun b s => dxS (argsOf m c) b s x) y) h1 h0

/-- The first launch leaves the partial sums of dgamma. -/
theorem arr0_8 (c : Dev nD) (s : Fin 8) (d : Fin 5120) :
    (dat0 (V1 m ρ) c).arrAt 8 cfg0.N (ix2 s d)
      = ∑ t : Fin 48, ∑ k : Fin 32, flat (fun b p => dxhS (argsOf m c) b p d * nS (argsOf m c) b p d) (row0 t ⟨k.val * 8 + s.val, by omega⟩) := by
  have h : (dat0 (V1 m ρ) c).arrAt 8 cfg0.N = (outsAt0 (V1 m ρ) c 47 (by decide)).2 := by
    refine (dat0 (V1 m ρ) c).arrAt_eq_of_after_last 8 ⟨47, by decide⟩ (by decide +kernel) _ fun j => ?_
    blk_simp
    refine (congrFun (after0_8 (V1 m ρ) c ⟨47, by decide⟩) _).trans ?_
    exact congrArg (outsAt0 (V1 m ρ) c 47 (by decide)).2 (funext fun a => Fin.ext rfl)
  rw [h]
  exact outs0_2 m ρ c ⟨47, by decide⟩ rfl s d

/-- The second launch leaves the gradient of the weight. -/
theorem arr1_5 (c : Dev nD) :
    (dat1 (V3 m ρ) c).arrAt 5 cfg1.N = fun i => dwS (argsOf m c) (i 0) (i 1) := by
  refine (dat1 (V3 m ρ) c).arrAt_eq_of_covers 5 _ (by decide +kernel) fun t hf y => ?_
  blk_simp
  rw [after1_5]
  obtain ⟨e, n, rfl⟩ : ∃ (e : Fin 512) (n : Fin 7168), y = (ix2 e n : S512x7168.Idx) :=
    ⟨y 0, y 1, by funext a; match a with | ⟨0, _⟩ => rfl | ⟨1, _⟩ => rfl⟩
  refine (outs1_last m ρ c t ((flush1_5 t).mp hf) e n).trans ?_
  have h0 : col1 t e = (win1_5.blk t).view.emb (ix2 e n : S512x7168.Idx) 0 := by
    apply Fin.ext
    blk_simp [idx1_5 t, col1]
  have h1 : n = (win1_5.blk t).view.emb (ix2 e n : S512x7168.Idx) 1 := by
    apply Fin.ext
    blk_simp [idx1_5 t]
  exact congrArg₂ (fun (x : Fin 5120) (y : Fin 7168) => dwS (argsOf m c) x y) h0 h1

end Cert.KernelIdeal.Val
-- ==== Proof.Run.lean ====
/- Part of the value claim: the run of the kernel program, with every buffer the program keeps read at its final
   contents (the frame certificate's run, with the whole last boundary kept). -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the kernel's main function ends, and it ends with every buffer it keeps at the contents the
    fold over its host stretches and its two regions gives (`Gen.W5`). -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.KernelIdeal.Val
-- ==== Proof.Results.lean ====
/- The three results of the kernel program in its arguments, and both programs' runs with their results named. -/
module
public import proofs.«01_k».proof.Proof.Arrays
public import proofs.«01_k».proof.Proof.Run
public import Idealize.ShloMosaic.Lib.Pipeline.ValueKit
@[expose] public section
set_option maxRecDepth 16384
noncomputable section
namespace Cert.KernelIdeal.Val
open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg)

set_option maxHeartbeats 4000000

/-- The first result is dx. -/
theorem res_v11 (c : Dev nD) (b : Fin 6) (s : Fin 2048) (d : Fin 5120) :
    W5 m ρ c (Proc.devRef .tc main_v11) (ix3 b s d) = dxS (argsOf m c) b s d := by
  have e : W4 m ρ c (Proc.devRef .tc main_v7_0) = fun i => flat (fun b s => dxS (argsOf m c) b s (i 1)) (i 0) :=
    (W4_of m ρ c main_v7_0 (by decide)).trans ((W3_of m ρ c main_v7_0 (by decide)).trans ((W2_arr m ρ c 7).trans (arr0_7 m ρ c)))
  change StableHlo.after hostOps2 (W4 m ρ c) (Proc.devRef .tc main_v11) (ix3 b s d) = _
  generalize W4 m ρ c = σ at e ⊢
  entry_read
  rw [e]
  pointwise
  refine congrArg₂ (fun b s => dxS (argsOf m c) b s d) (Fin.ext ?_) (Fin.ext ?_)
  · change (b.val * 2048 + s.val) / 2048 = b.val
    omega
  · change (b.val * 2048 + s.val) % 2048 = s.val
    omega

/-- The second result is the gradient of the weight. -/
theorem res_v10 (c : Dev nD) (d : Fin 5120) (n : Fin 7168) :
    W5 m ρ c (Proc.devRef .tc main_v10) (ix2 d n) = dwS (argsOf m c) d n :=
  congrFun ((W5_of m ρ c main_v10 (by decide)).trans ((W4_arr m ρ c 5).trans (arr1_5 m ρ c))) (ix2 d n)

/-- Rows s, s + 8, s + 16, … of every block, over all eight s, are all the rows. -/
theorem dg_sum (f : Fin 12288 → EReal) :
    ∑ s : Fin 8, ∑ t : Fin 48, ∑ k : Fin 32, f (row0 t ⟨k.val * 8 + s.val, by omega⟩) = ∑ t : Fin 12288, f t := by
  rw [sum_split 48 256 rfl, Finset.sum_comm]
  refine Finset.sum_congr rfl fun t _ => ?_
  rw [sum_split 32 8 rfl, Finset.sum_comm]
  rfl

/-- The third result is the gradient of the gain. -/
theorem res_v12 (c : Dev nD) (d : Fin 5120) :
    W5 m ρ c (Proc.devRef .tc main_v12) (ix1 d) = dgS (argsOf m c) d := by
  have e : W4 m ρ c (Proc.devRef .tc main_v7_1) = (dat0 (V1 m ρ) c).arrAt 8 cfg0.N :=
    (W4_of m ρ c main_v7_1 (by decide)).trans ((W3_of m ρ c main_v7_1 (by decide)).trans (W2_arr m ρ c 8))
  have e8 : ∀ s : Fin 8, W4 m ρ c (Proc.devRef .tc main_v7_1) (ix2 s d)
      = ∑ t : Fin 48, ∑ k : Fin 32, flat (fun b p => dxhS (argsOf m c) b p d * nS (argsOf m c) b p d) (row0 t ⟨k.val * 8 + s.val, by omega⟩) :=
    fun s => (congrFun e _).trans (arr0_8 m ρ c s d)
  change StableHlo.after hostOps2 (W4 m ρ c) (Proc.devRef .tc main_v12) (ix1 d) = _
  generalize W4 m ρ c = σ at e8 ⊢
  entry_read
  pointwise
  have step : ∀ g : Fin 8 → EReal, (∀ s, g s = ∑ t : Fin 48, ∑ k : Fin 32,
        flat (fun b p => dxhS (argsOf m c) b p d * nS (argsOf m c) b p d) (row0 t ⟨k.val * 8 + s.val, by omega⟩)) →
      ∑ s : Fin 8, g s = dgS (argsOf m c) d := by
    intro g hg
    refine (Finset.sum_congr rfl fun s _ => hg s).trans ?_
    refine (dg_sum _).trans ?_
    exact sum_flat fun b s => dxhS (argsOf m c) b s d * nS (argsOf m c) b s d
  exact step _ e8

/-- Every index of a rank 3 array is given by its three coordinates. -/
theorem eta3 (i : S6x2048x5120.Idx) : (ix3 (i 0) (i 1) (i 2) : S6x2048x5120.Idx) = i := by
  funext a
  match a with
  | ⟨0, _⟩ => rfl
  | ⟨1, _⟩ => rfl
  | ⟨2, _⟩ => rfl

/-- Every index of a rank 2 array is given by its two coordinates. -/
theorem eta2 (i : S5120x7168.Idx) : (ix2 (i 0) (i 1) : S5120x7168.Idx) = i := by
  funext a
  match a with
  | ⟨0, _⟩ => rfl
  | ⟨1, _⟩ => rfl

/-- Every index of a rank 1 array is given by its coordinate. -/
theorem eta1 (i : S5120.Idx) : (ix1 (i 0) : S5120.Idx) = i := by
  funext a
  match a with
  | ⟨0, _⟩ => rfl

/-- dx as an array. -/
def dxArr (A : Args) : Vec Ideal S6x2048x5120 .bf16 := fun i => dxS A (i 0) (i 1) (i 2)
/-- The gradient of the weight as an array. -/
def dwArr (A : Args) : Vec Ideal S5120x7168 .f32 := fun i => dwS A (i 0) (i 1)
/-- The gradient of the gain as an array. -/
def dgArr (A : Args) : Vec Ideal S5120 .f32 := fun i => dgS A (i 0)

/-- The kernel program ends with its three results at the three gradients, its arguments unchanged. -/
theorem run_results : θ_run defs (onTc (τ := τ) (main (F := Ideal))) ⟨m, fun _ => 0, ρ⟩ (fun r => ∀ c : Dev nD,
      r.2.mem ((c.tc : Thread nD τ).loc main_v11) = dxArr (argsOf m c)
      ∧ r.2.mem ((c.tc : Thread nD τ).loc main_v10) = dwArr (argsOf m c)
      ∧ r.2.mem ((c.tc : Thread nD τ).loc main_v12) = dgArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v11 (by decide))).trans (funext fun i => (congrArg _ (eta3 i).symm).trans (res_v11 m ρ c _ _ _)),
     (h c _ (mem_uc main_v10 (by decide))).trans (funext fun i => (congrArg _ (eta2 i).symm).trans (res_v10 m ρ c _ _)),
     (h c _ (mem_uc main_v12 (by decide))).trans (funext fun i => (congrArg _ (eta1 i).symm).trans (res_v12 m ρ c _)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run m ρ)

end Cert.KernelIdeal.Val
-- ==== Proof.RefValue.lean ====
/- The three results of the reference, written index by index in its arguments. -/
module
public import proofs.«01_k».proof.Proof.Gen.ReferenceIdeal.Value
public import proofs.«01_k».proof.Proof.ArgSpec
public import Idealize.ShloMosaic.Lib.Pipeline.ValueKit
@[expose] public section
set_option maxRecDepth 16384
noncomputable section
namespace Cert.ReferenceIdeal.Val
open Idealize.ShloMosaic Idealize.ShloMosaic.TcCoe Idealize.ShloMosaic.Tactic
open Cert.ReferenceIdeal Cert.ReferenceIdeal.Gen
open Cert.KernelIdeal.Val (Args dxS dgS dwS dxhS nS mS)

variable (A : Args)
set_option maxHeartbeats 4000000

/-- A sum over the first two axes of a rank 3 array, at a coordinate of the last one. -/
theorem reduceAdd_a01 (h : S6x2048x5120.Reduces [0, 1] S5120) (v : S6x2048x5120.Idx → EReal) (d : Fin 5120) :
    Ideal.reduceAdd h v (ix1 d) = ∑ b : Fin 6, ∑ s : Fin 2048, v (ix3 b s d) := by
  have fib : ∀ i : S6x2048x5120.Idx, h.drop i = ix1 d ↔ ∃ k : Fin 6 × Fin 2048, (ix3 k.1 k.2 d : S6x2048x5120.Idx) = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine (Finset.sum_filter_eq_sum_of_fiber _ (fun k : Fin 6 × Fin 2048 => (ix3 k.1 k.2 d : S6x2048x5120.Idx))
    (fun _ _ e => Prod.ext (congrFun e 0) (congrFun e 1)) fib v).trans ?_
  simp only [Fintype.sum_prod_type]

/-- The literal 5120.0 denotes 5120. -/
theorem lit5120 : Ideal.ofBits .f32 0x45A00000#32 = ((5120 : ℝ) : EReal) := by
  simp [Ideal.ofBits, Ideal.ieee, -EReal.coe_mul]; norm_num

/-- The reference's gradient with respect to the weight. -/
theorem out8_at (d : Fin 5120) (n : Fin 7168) :
    out0_8 (F := Ideal) A.a0 A.a1 A.a2 A.a3 A.a4 A.a5 A.a6 (ix2 d n) = dwS A d n := by
  frame_out
  pointwise [k0_pay3, k0_pay2]
  unfold dwS nS
  simp only [mul_assoc]

/-- The reference's gradient with respect to the gain. -/
theorem out9_at (d : Fin 5120) :
    out0_9 (F := Ideal) A.a0 A.a1 A.a2 A.a3 A.a4 A.a5 A.a6 (ix1 d) = dgS A d := by
  frame_out
  pointwise [k0_pay5, k0_pay4, k0_pay2]
  rw [reduceAdd_a01]
  pointwise
  unfold dgS dxhS nS
  simp only [mul_assoc, mul_comm (A.a4 _)]

/-- The reference's gradient with respect to the activation. -/
theorem out7_at (b : Fin 6) (s : Fin 2048) (d : Fin 5120) :
    out0_7 (F := Ideal) A.a0 A.a1 A.a2 A.a3 A.a4 A.a5 A.a6 (ix3 b s d) = dxS A b s d := by
  frame_out
  pointwise [k0_pay1, k0_pay4, k0_pay2, k0_pay6, k0_pay7, k0_pay8]
  rw [lit5120, Ideal.div_coe (by norm_num : (5120 : ℝ) ≠ 0)]
  unfold dxS mS nS
  have hd : ∀ d : Fin 5120, ∑ n : Fin 7168, A.a6 (ix3 b s n) * (A.a4 (ix2 d n) * A.a5 (ix1 n)) = dxhS A b s d := by
    intro d
    unfold dxhS
    exact Finset.sum_congr rfl fun n _ => by rw [mul_comm (A.a4 _), mul_assoc]
  simp only [hd]
  have hm : ∀ d : Fin 5120, dxhS A b s d * A.a3 (ix1 d) * (A.a0 (ix3 b s d) * (A.a1 (ix3 b s ⟨d.val / 128, by omega⟩) * A.a2 (ix2 b s)))
      = dxhS A b s d * (A.a0 (ix3 b s d) * (A.a1 (ix3 b s ⟨d.val / 128, by omega⟩) * A.a2 (ix2 b s))) * A.a3 (ix1 d) :=
    fun d => mul_right_comm _ _ _
  have ha : ∀ (d : Fin 5120), A.a0 (ix3 b s d) * A.a1 (ix3 b s ⟨d.val / 128, by omega⟩) * A.a2 (ix2 b s)
      = A.a0 (ix3 b s d) * (A.a1 (ix3 b s ⟨d.val / 128, by omega⟩) * A.a2 (ix2 b s)) := fun d => mul_assoc _ _ _
  simp only [ha, hm]

end Cert.ReferenceIdeal.Val
-- ==== Proof.Algebraic.lean ====
/- The value claim: over the extended reals the kernel and the reference end with equal results. -/
module
public import proofs.«01_k».proof.Defs
public import proofs.«01_k».proof.Proof.Results
public import proofs.«01_k».proof.Proof.RefValue
@[expose] public section
set_option maxRecDepth 16384
noncomputable section
namespace Cert.ReferenceIdeal.Val
open Idealize.ShloMosaic Idealize.ShloMosaic.TcCoe
open Idealize.SL.Sem
open Cert.ReferenceIdeal Cert.ReferenceIdeal.Gen Cert.ReferenceIdeal.Value
open Cert.KernelIdeal.Val (Args dxArr dwArr dgArr eta1 eta2 eta3 argsOf)

/-- The reference's three results at any arguments are the three gradients. -/
theorem ref_results (A : Args) :
    G7 (F := Ideal) A.a0 A.a1 A.a2 A.a3 A.a4 A.a5 A.a6 = dxArr A
    ∧ G8 (F := Ideal) A.a0 A.a1 A.a2 A.a3 A.a4 A.a5 A.a6 = dwArr A
    ∧ G9 (F := Ideal) A.a0 A.a1 A.a2 A.a3 A.a4 A.a5 A.a6 = dgArr A :=
  ⟨(out7_eq ..).symm.trans (funext fun i => (congrArg _ (eta3 i).symm).trans (out7_at A _ _ _)),
   (out8_eq ..).symm.trans (funext fun i => (congrArg _ (eta2 i).symm).trans (out8_at A _ _)),
   (out9_eq ..).symm.trans (funext fun i => (congrArg _ (eta1 i).symm).trans (out9_at A _))⟩

/-- Both programs, launched with the same arguments, end with the same three results and their arguments unchanged. -/
theorem algebraic : Cert.algebraic_KernelIdeal_ReferenceIdeal
    (hKernelIdeal := Cert.KernelIdeal.Gen.facts) (hReferenceIdeal := Cert.ReferenceIdeal.Gen.facts) := by
  intro m g m' g' _ hag
  refine ⟨fun c => dxArr (argsOf m c), fun c => dwArr (argsOf m c), fun c => dgArr (argsOf m c),
    Cert.KernelIdeal.Val.run_results m g, ?_⟩
  refine (θ_run Cert.ReferenceIdeal.defs _ _).mono (fun r h c => ?_) (Cert.ReferenceIdeal.Value.run m' g')
  obtain ⟨e0, e1, e2, e3, e4, e5, e6⟩ := hag c
  obtain ⟨h7, h8, h9, hk⟩ := h c
  obtain ⟨r7, r8, r9⟩ := ref_results (argsOf m c)
  rw [e0, e1, e2, e3, e4, e5, e6] at h7 h8 h9
  exact ⟨h7.trans r7, h8.trans r8, h9.trans r9, hk⟩

end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three programs end with every counter at zero and their arguments unchanged; the constant of the idealised kernel is the
    one its name says; and over the extended reals the kernel's three results are the reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  IdealRules.named_const.statement Cert.KernelIdeal.κ "inv_d" .f32 0x394CCCCD#32 ((1 / 5120 : ℝ) : EReal) rfl,
  Cert.ReferenceIdeal.Val.algebraic⟩

end Cert.Proof

end
